-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x64 : Shape := ⟨3, ![2, 1024, 64]⟩
abbrev S1024x64 : Shape := ⟨2, ![1024, 64]⟩
abbrev S_ : Shape := ⟨0, ![]⟩

class Facts : Prop where
  bcast_S_S2x1024x64 : S_.BroadcastsInDim S2x1024x64 (![] : Fin 0 → Fin S2x1024x64.rank)
  reducesTo_S2x1024x64_S_d0_1_2 : S2x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S2x1024x64 .f32) (main_arg1 : FVec F S1024x64 .f32) : IVec S_ 1 :=
  let main_v0 : FVec F S2x1024x64 .f32 := Host.absf main_arg0
  let main_cst : FVec F S_ .f32 := constant S_ .f32 0x7F800000#32
  let main_v1 : FVec F S2x1024x64 .f32 := broadcastInDim S2x1024x64 ![] bcast_S_S2x1024x64 main_cst
  let main_v2 : IVec S2x1024x64 1 := cmpf .olt main_v0 main_v1
  let main_c : IVec S_ 1 := constantI S_ 1 1#1
  let main_v3 : IVec S_ 1 := (fun x v => Host.reduce IntOp.andi x v reducesTo_S2x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S2x1024x64 : Shape := ⟨3, ![2, 1024, 64]⟩
abbrev S1024x64 : Shape := ⟨2, ![1024, 64]⟩
abbrev S2048x64 : Shape := ⟨2, ![2048, 64]⟩
abbrev S1x1x2048 : Shape := ⟨3, ![1, 1, 2048]⟩
abbrev S1x1x1 : Shape := ⟨3, ![1, 1, 1]⟩
abbrev S64x2048 : Shape := ⟨2, ![64, 2048]⟩
abbrev S128x2048 : Shape := ⟨2, ![128, 2048]⟩
abbrev S1x2048 : Shape := ⟨2, ![1, 2048]⟩
abbrev S128x64 : Shape := ⟨2, ![128, 64]⟩
abbrev S128 : Shape := ⟨1, ![128]⟩
abbrev S128x1 : Shape := ⟨2, ![128, 1]⟩
abbrev S2048 : Shape := ⟨1, ![2048]⟩
abbrev S1x2048x64 : Shape := ⟨3, ![1, 2048, 64]⟩
abbrev S1 : Shape := ⟨1, ![1]⟩
abbrev S_ : Shape := ⟨0, ![]⟩
abbrev S2x1024 : Shape := ⟨2, ![2, 1024]⟩

abbrev nBuf : Space → Nat
  | .hbm => 15
  | .vmem => 5
  | .smem => 0
  | _ => 0

abbrev bufTy : (tb : Table) → Fin (tcTables nBuf tb) → BufTy
  | .hbm, ⟨0, _⟩ => ⟨S2x1024x64, .f32⟩
  | .hbm, ⟨1, _⟩ => ⟨S1024x64, .f32⟩
  | .hbm, ⟨2, _⟩ => ⟨S2048x64, .f32⟩
  | .hbm, ⟨3, _⟩ => ⟨S2048x64, .f32⟩
  | .hbm, ⟨4, _⟩ => ⟨S1x1x2048, .i32⟩
  | .hbm, ⟨5, _⟩ => ⟨S1x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x1024x64, .f32⟩
  | .hbm, ⟨14, _⟩ => ⟨S2x1024, .i32⟩
  | .local _ .vmem, ⟨0, _⟩ => ⟨S2048x64, .f32⟩
  | .local _ .vmem, ⟨1, _⟩ => ⟨S1024x64, .f32⟩
  | .local _ .vmem, ⟨2, _⟩ => ⟨S2048x64, .f32⟩
  | .local _ .vmem, ⟨3, _⟩ => ⟨S1x1x2048, .i32⟩
  | .local _ .vmem, ⟨4, _⟩ => ⟨S1x1x1, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== ReferenceIdeal.lean ====
abbrev S2x1024x64 : Shape := ⟨3, ![2, 1024, 64]⟩
abbrev S1024x64 : Shape := ⟨2, ![1024, 64]⟩
abbrev S2048x64 : Shape := ⟨2, ![2048, 64]⟩
abbrev S2048x1x64 : Shape := ⟨3, ![2048, 1, 64]⟩
abbrev S1x1024x64 : Shape := ⟨3, ![1, 1024, 64]⟩
abbrev S2048x1024x64 : Shape := ⟨3, ![2048, 1024, 64]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2x1024 : Shape := ⟨2, ![2, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S1024x64, .f32⟩
  | .hbm, ⟨2, _⟩ => ⟨S2048x64, .f32⟩
  | .hbm, ⟨3, _⟩ => ⟨S2048x1x64, .f32⟩
  | .hbm, ⟨4, _⟩ => ⟨S1x1024x64, .f32⟩
  | .hbm, ⟨5, _⟩ => ⟨S2048x1024x64, .f32⟩
  | .hbm, ⟨6, _⟩ => ⟨S2048x1024x64, .f32⟩
  | .hbm, ⟨7, _⟩ => ⟨S2048x1024x64, .f32⟩
  | .hbm, ⟨8, _⟩ => ⟨S2048x1024x64, .f32⟩
  | .hbm, ⟨9, _⟩ => ⟨S_, .f32⟩
  | .hbm, ⟨10, _⟩ => ⟨S2048x1024, .f32⟩
  | .hbm, ⟨11, _⟩ => ⟨S2048x1024, .i32⟩
  | .hbm, ⟨12, _⟩ => ⟨S_, .f32⟩
  | .hbm, ⟨13, _⟩ => ⟨S_, .i32⟩
  | .hbm, ⟨14, _⟩ => ⟨S2048, .f32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S1, .i32⟩
  | .hbm, ⟨25, _⟩ => ⟨S_, .i32⟩
  | .hbm, ⟨26, _⟩ => ⟨S2048x1, .i32⟩
  | .hbm, ⟨27, _⟩ => ⟨S2048x1, .i1⟩
  | .hbm, ⟨28, _⟩ => ⟨S1x1, .i32⟩
  | .hbm, ⟨29, _⟩ => ⟨S2048x1, .i32⟩
  | .hbm, ⟨30, _⟩ => ⟨S2048x1, .i1⟩
  | .hbm, ⟨31, _⟩ => ⟨S2048x1, .i1⟩
  | .hbm, ⟨32, _⟩ => ⟨S_, .i1⟩
  | .hbm, ⟨33, _⟩ => ⟨S2048, .i1⟩
  | .hbm, ⟨34, _⟩ => ⟨S2048x64, .f32⟩
  | .hbm, ⟨35, _⟩ => ⟨S2048x64, .i1⟩
  | .hbm, ⟨36, _⟩ => ⟨S_, .f32⟩
  | .hbm, ⟨37, _⟩ => ⟨S2048x64, .f32⟩
  | .hbm, ⟨38, _⟩ => ⟨S2048x64, .f32⟩
  | .hbm, ⟨39, _⟩ => ⟨S2x1024x64, .f32⟩
  | .hbm, ⟨40, _⟩ => ⟨S2x1024x64, .f32⟩
  | .hbm, ⟨41, _⟩ => ⟨S2x1024x64, .f32⟩
  | .hbm, ⟨42, _⟩ => ⟨S2x1024x64, .f32⟩
  | .hbm, ⟨43, _⟩ => ⟨S2x1024x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x1024x64, .f32⟩
  | .hbm, ⟨49, _⟩ => ⟨S2x1024x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x1024, .i32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩

abbrev nD : Nat := 1
abbrev τ : Topo := Topo.v7x

variable {F : FTy → Type} [FloatOps F]
-- ==== Proof.Chunks.lean ====
/-
  The kernel body, said once. The kernel walks the 1024 codewords in eight chunks of 128 and prints its walk chunk by
  chunk; every chunk does the same. Here is one chunk's work over an arbitrary chunk number `j` (`score`, `best`,
  `firstAt`, `masked`, `step`), the walk as the repetition of it (`walk`), the one-hot fetch of a codeword as the
  repetition of another step (`fetchStep`, `fetch`), and the proofs that what the program prints are these.
-/
module

public import proofs.«01_k».proof.Proof.Gen.KernelIdeal.Frame

@[expose] public section

set_option maxRecDepth 16384

noncomputable section

namespace Cert.Proof.Chunks

open Cert.KernelIdeal Cert.KernelIdeal.Gen
open Idealize.ShloMosaic Idealize.SL.Sem

variable {F : FTy → Type} [FloatOps F]

/-- Chunk `j`'s 128 codewords are a box of the 1024. -/
theorem cut_ok : ∀ j : Fin 8, S1024x64.Slices ![128 * j.val, 0] S128x64 := by decide +kernel

/-- Chunk `j`'s rows of a codeword array. -/
def cut {α : Type} (j : Fin 8) (x : S1024x64.Idx → α) : S128x64.Idx → α :=
  extractStridedSlice S128x64 ![128 * j.val, 0] x (cut_ok j)

/-- The +∞ that the walk starts from and masks with. -/
def inf : F .f32 := Scalar.ofBits .f32 0x7F800000#32

/-- The code index of each lane of chunk `j`: its row within the chunk plus `128 j`. -/
def codes (j : Fin 8) : IVec S128x2048 32 :=
  addi (iota .tc S128x2048 32 [0] iota_S128x2048_d0_w32) (broadcast S128x2048 (BitVec.ofNat 32 (128 * j.val)))

section Score

variable (C : FVec F S1024x64 .f32) (H M : FVec F S1024x64 .bf16) (XH XL : FVec F S2048x64 .bf16)

/-- Chunk `j`'s scores: the codeword's squared length less twice its product with the row, the product taken over the
    high parts, the codeword's middle part and the row's low part. -/
def score (j : Fin 8) : FVec F S128x2048 .f32 :=
  subf
    (broadcastTo S128x2048 (shapeCast S128x1
      (multiReduction .add [1] S128 (mulf (cut j C) (cut j C)) 0x00000000#32 reduces_S128x64_S128 (.inl rfl) rfl)
      shapeCasts_S128_S128x1) broadcasts_S128x1_S128x2048)
    (mulf (broadcast S128x2048 (Scalar.ofBits .f32 0x40000000#32))
      (addf
        (addf (matmul dot_S128x64_S2048x64_S128x2048_1_1_0_0_n_n none (cut j H) XH (constant S128x2048 .f32 0x00000000#32))
          (matmul dot_S128x64_S2048x64_S128x2048_1_1_0_0_n_n none (cut j M) XH (constant S128x2048 .f32 0x00000000#32)))
        (matmul dot_S128x64_S2048x64_S128x2048_1_1_0_0_n_n none (cut j H) XL (constant S128x2048 .f32 0x00000000#32))))

end Score

/-- The least score of each column. -/
def best (S : FVec F S128x2048 .f32) : FVec F S1x2048 .f32 :=
  shapeCast S1x2048 (multiReduction .minimumf [0] S2048 S 0x7F800000#32 reduces_S128x2048_S2048 (.inl rfl) rfl)
    shapeCasts_S2048_S1x2048

/-- Where a column's scores equal the given least one. -/
def hits (S : FVec F S128x2048 .f32) (b : FVec F S1x2048 .f32) : IVec S128x2048 1 :=
  cmpf .oeq S (broadcastTo S128x2048 b broadcasts_S1x2048_S128x2048)

/-- The first code of each column whose score equals the given least one. -/
def firstAt (j : Fin 8) (S : FVec F S128x2048 .f32) (b : FVec F S1x2048 .f32) : IVec S1x2048 32 :=
  shapeCast S1x2048
    (multiReductionI .minsi [0] S2048 (select (hits S b) (codes j) (broadcast S128x2048 1024#32)) 2147483647#32
      reduces_S128x2048_S2048 rfl)
    shapeCasts_S2048_S1x2048

/-- The scores with every least one replaced by +∞. -/
def masked (S : FVec F S128x2048 .f32) : FVec F S128x2048 .f32 :=
  select (hits S (best S)) (broadcast S128x2048 inf) S

/-- What the walk carries, per column: the best score so far and its code, the runner-up and its code. -/
structure St (F : FTy → Type) where
  m1 : FVec F S1x2048 .f32
  i1 : IVec S1x2048 32
  m2 : FVec F S1x2048 .f32
  i2 : IVec S1x2048 32

/-- Before any chunk: +∞ and the code 1024, which is none. -/
def st0 : St F where
  m1 := broadcast S1x2048 inf
  i1 := broadcast S1x2048 1024#32
  m2 := broadcast S1x2048 inf
  i2 := broadcast S1x2048 1024#32

/-- One chunk merged into what is carried: the chunk's best replaces the carried best where it is smaller; the
    runner-up is the smaller of the loser of that comparison and the winner's own runner-up. -/
def step (j : Fin 8) (S : FVec F S128x2048 .f32) (st : St F) : St F :=
  let t := cmpf .olt (best S) st.m1
  let lm := select t st.m1 (best S)
  let li := select t st.i1 (firstAt j S (best S))
  let rm := select t (best (masked S)) st.m2
  let ri := select t (firstAt j (masked S) (best (masked S))) st.i2
  let u := cmpf .olt rm lm
  { m1 := select t (best S) st.m1
    i1 := select t (firstAt j S (best S)) st.i1
    m2 := select u rm lm
    i2 := select u ri li }

section Walk

variable (x0 : Vec F S2048x64 .f32) (x1 : Vec F S1024x64 .f32)

/-- Chunk `j`'s scores in the kernel: `score` at the parts the kernel splits its two inputs into. -/
def scores (j : Fin 8) : FVec F S128x2048 .f32 :=
  score (View.ld x1 r0_1) (k0_pay187 x0 x1) (k0_pay188 x0 x1) (k0_pay190 x0 x1) (k0_pay191 x0 x1) j

/-- What is carried before chunk `n`. -/
def walk : Nat → St F
  | 0 => st0
  | n + 1 => step (Fin.ofNat 8 n) (scores x0 x1 (Fin.ofNat 8 n)) (walk n)

/-! ### The printed chunks are the walk

    One equation per chunk: the values printed for the chunk's end are the step at what the chunk before left. The
    runner-up's code is printed inside other values, so each equation names it by the payload that computes it. -/

theorem walk0 : walk x0 x1 0 = ⟨k0_pay192 x0 x1, k0_pay193 x0 x1, k0_pay192 x0 x1, k0_pay193 x0 x1⟩ := rfl

theorem walk1 : walk x0 x1 1 = ⟨k0_pay198 x0 x1, k0_pay199 x0 x1, k0_pay200 x0 x1,
    k0_pay29 (k0_pay192 x0 x1) (k0_pay193 x0 x1) (k0_pay194 x0 x1) k0_pay16 (k0_pay195 x0 x1) (k0_pay196 x0 x1) (k0_pay197 x0 x1)⟩ := by
  rw [walk, walk0]; rfl

theorem walk2 : walk x0 x1 2 = ⟨k0_pay205 x0 x1, k0_pay206 x0 x1, k0_pay207 x0 x1,
    k0_pay44 (k0_pay198 x0 x1) (k0_pay199 x0 x1) (k0_pay200 x0 x1) (walk x0 x1 1).i2 (k0_pay201 x0 x1) (k0_pay31 (k0_pay184 x0 x1))
      (k0_pay202 x0 x1) (k0_pay203 x0 x1) (k0_pay204 x0 x1) (Scalar.ofBits .f32 0x7F800000#32)⟩ := by
  rw [walk, walk1]; rfl

theorem walk3 : walk x0 x1 3 = ⟨k0_pay213 x0 x1, k0_pay214 x0 x1, k0_pay215 x0 x1,
    k0_pay60 (k0_pay205 x0 x1) (k0_pay206 x0 x1) (k0_pay207 x0 x1) (walk x0 x1 2).i2 (k0_pay208 x0 x1) (k0_pay46 (k0_pay184 x0 x1)) (k0_pay209 x0 x1) (k0_pay210 x0 x1) (k0_pay211 x0 x1) (k0_pay212 x0 x1)⟩ := by
  rw [walk, walk2]; rfl

theorem walk4 : walk x0 x1 4 = ⟨k0_pay219 x0 x1, k0_pay220 x0 x1, k0_pay221 x0 x1,
    k0_pay75 (k0_pay213 x0 x1) (k0_pay214 x0 x1) (k0_pay215 x0 x1) (walk x0 x1 3).i2 (k0_pay62 (k0_pay184 x0 x1)) (k0_pay216 x0 x1) (k0_pay217 x0 x1) (k0_pay218 x0 x1)⟩ := by
  rw [walk, walk3]; rfl

theorem walk5 : walk x0 x1 5 = ⟨k0_pay225 x0 x1, k0_pay226 x0 x1, k0_pay227 x0 x1,
    k0_pay90 (k0_pay219 x0 x1) (k0_pay220 x0 x1) (k0_pay221 x0 x1) (walk x0 x1 4).i2 (k0_pay77 (k0_pay184 x0 x1)) (k0_pay222 x0 x1) (k0_pay223 x0 x1) (k0_pay224 x0 x1)⟩ := by
  rw [walk, walk4]; rfl

theorem walk6 : walk x0 x1 6 = ⟨k0_pay231 x0 x1, k0_pay232 x0 x1, k0_pay233 x0 x1,
    k0_pay106 (k0_pay225 x0 x1) (k0_pay226 x0 x1) (k0_pay227 x0 x1) (walk x0 x1 5).i2 (k0_pay92 (k0_pay184 x0 x1)) (k0_pay228 x0 x1) (k0_pay229 x0 x1)
      (k0_pay96 (View.ld x1 r0_1) (k0_pay187 x0 x1) (k0_pay188 x0 x1) (k0_pay190 x0 x1) (k0_pay191 x0 x1)) (k0_pay230 x0 x1)⟩ := by
  rw [walk, walk5]; rfl

/-- Before the last chunk; the runner-up's code is printed as one value, all seven chunks' payloads nested in it. -/
theorem walk7 : walk x0 x1 7 = ⟨k0_pay237 x0 x1, k0_pay238 x0 x1, k0_pay239 x0 x1, k0_pay240 x0 x1⟩ := by
  rw [walk, walk6, walk5, walk4, walk3, walk2, walk1]; rfl

/-- After the last chunk: the code of the best score, -/
theorem walk8_i1 : (walk x0 x1 8).i1 = k0_pay247 x0 x1 := by
  rw [walk, walk7]; rfl

/-- and of the runner-up. -/
theorem walk8_i2 : (walk x0 x1 8).i2 = k0_pay248 x0 x1 := by
  rw [walk, walk7]; rfl

end Walk

/-! ### Fetching a codeword by its code -/

section Fetch

variable (H M L : FVec F S1024x64 .bf16) (i : IVec S1x2048 32)

/-- A column of chunk `j` with a one at the given code and zeros elsewhere. -/
def oneHot (j : Fin 8) : FVec F S128x2048 .bf16 :=
  truncf .bf16 (sitofp .f32 (extui 32 (cmpi .eq (codes j) (broadcastTo S128x2048 i broadcasts_S1x2048_S128x2048)) natLt_1_32))
    bitsLt_bf16_f32

/-- One chunk's contribution to the fetched codewords: its three parts times the one-hot columns, added on. -/
def fetchStep (j : Fin 8) (acc : FVec F S64x2048 .f32) : FVec F S64x2048 .f32 :=
  addf
    (addf
      (addf acc (matmul dot_S128x64_S128x2048_S64x2048_0_0_1_1_n_n none (cut j H) (oneHot i j) (constant S64x2048 .f32 0x00000000#32)))
      (matmul dot_S128x64_S128x2048_S64x2048_0_0_1_1_n_n none (cut j M) (oneHot i j) (constant S64x2048 .f32 0x00000000#32)))
    (matmul dot_S128x64_S128x2048_S64x2048_0_0_1_1_n_n none (cut j L) (oneHot i j) (constant S64x2048 .f32 0x00000000#32))

/-- The fetch before chunk `n`, from zeros. -/
def fetch : Nat → FVec F S64x2048 .f32
  | 0 => broadcast S64x2048 (Scalar.ofBits .f32 0x00000000#32)
  | n + 1 => fetchStep H M L i (Fin.ofNat 8 n) (fetch n)

end Fetch

section Fetched

variable (x0 : Vec F S2048x64 .f32) (x1 : Vec F S1024x64 .f32)

/-- The codewords fetched for the best codes, as printed, -/
theorem fetch_best : fetch (k0_pay187 x0 x1) (k0_pay188 x0 x1) (k0_pay189 x0 x1) (k0_pay247 x0 x1) 8 = k0_pay254 x0 x1 := rfl

/-- and for the runners-up. -/
theorem fetch_second : fetch (k0_pay187 x0 x1) (k0_pay188 x0 x1) (k0_pay189 x0 x1) (k0_pay248 x0 x1) 8 = k0_pay255 x0 x1 := rfl

/-- The squared distance of each column's row from the codeword fetched for it. -/
def apart (xT c : FVec F S64x2048 .f32) : FVec F S2048 .f32 :=
  multiReduction .add [0] S2048 (mulf (subf xT c) (subf xT c)) 0x00000000#32 reduces_S64x2048_S2048 (.inl rfl) rfl

theorem apart_best : shapeCast S1x2048 (apart (k0_pay186 x0 x1) (k0_pay254 x0 x1)) shapeCasts_S2048_S1x2048 = k0_pay256 x0 x1 := rfl

theorem apart_second : apart (k0_pay186 x0 x1) (k0_pay255 x0 x1) = k0_pay257 x0 x1 := rfl

end Fetched

end Cert.Proof.Chunks

end
-- ==== Proof.First.lean ====
/-
  First minima. The code of the nearest codeword is a position where a list of distances is least, and of several such
  positions the first. Here is that notion on a range of positions, that it determines the position, and how it merges
  over two adjacent ranges; and that a finite sum of real numbers is the same in the extended reals.
-/
module

public import Mathlib.Data.EReal.Operations
public import Mathlib.Algebra.BigOperators.Group.Finset.Basic

@[expose] public section

noncomputable section

namespace Cert.Proof.First

/-- `k` is the first position from `lo` up to (not including) `hi` where `s` is least. -/
def FirstOn (s : ℕ → EReal) (lo hi k : ℕ) : Prop :=
  lo ≤ k ∧ k < hi ∧ ∀ k', lo ≤ k' → k' < hi → s k ≤ s k' ∧ (s k' = s k → k ≤ k')

/-- There is at most one first minimum. -/
theorem FirstOn.unique {s : ℕ → EReal} {lo hi k l : ℕ} (hk : FirstOn s lo hi k) (hl : FirstOn s lo hi l) : k = l := by
  have a := hk.2.2 l hl.1 hl.2.1
  have b := hl.2.2 k hk.1 hk.2.1
  have e := le_antisymm a.1 b.1
  exact le_antisymm (a.2 e.symm) (b.2 e)

/-- The first minimum of two adjacent ranges is the second's if that is strictly smaller, else the first's. -/
theorem FirstOn.merge {s : ℕ → EReal} {lo mid hi k l : ℕ} (hk : FirstOn s lo mid k) (hl : FirstOn s mid hi l) :
    FirstOn s lo hi (if s l < s k then l else k) := by
  obtain ⟨k1, k2, k3⟩ := hk
  obtain ⟨l1, l2, l3⟩ := hl
  split
  case isTrue h =>
    refine ⟨by omega, l2, fun k' a b => ?_⟩
    by_cases c : k' < mid
    · have d := lt_of_lt_of_le h (k3 k' a c).1
      exact ⟨d.le, fun e => absurd e d.ne'⟩
    · exact l3 k' (by omega) b
  case isFalse h =>
    have h := not_lt.1 h
    refine ⟨k1, by omega, fun k' a b => ?_⟩
    by_cases c : k' < mid
    · exact k3 k' a c
    · exact ⟨h.trans (l3 k' (by omega) b).1, fun _ => by omega⟩

/-- Lists ordered the same way have the same first minima. -/
theorem FirstOn.congr {s t : ℕ → EReal} {lo hi k : ℕ} (h : ∀ a b, s a ≤ s b ↔ t a ≤ t b) (hk : FirstOn s lo hi k) :
    FirstOn t lo hi k :=
  ⟨hk.1, hk.2.1, fun k' a b => ⟨(h _ _).1 (hk.2.2 k' a b).1, fun e =>
    (hk.2.2 k' a b).2 (le_antisymm ((h _ _).2 e.le) ((h _ _).2 e.ge))⟩⟩

/-- A finite sum of real numbers, taken in the extended reals. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

end Cert.Proof.First

end
-- ==== Proof.Column.lean ====
/-
  One column of the kernel's walk. A chunk's least score is one of its scores; the code found for it is the first whose
  score that is; merged chunk by chunk, the code carried is the first minimum of all scores met so far, and the
  runner-up's code, whatever its score, is the code of some codeword from the first chunk on.
-/
module

public import proofs.«01_k».proof.Proof.Chunks
public import proofs.«01_k».proof.Proof.First
public import Idealize.ShloMosaic.Lib.Pointwise

@[expose] public section

set_option maxRecDepth 16384

noncomputable section

namespace Cert.Proof.Column

open Cert.KernelIdeal Cert.KernelIdeal.Gen Cert.Proof.Chunks Cert.Proof.First
open Idealize.ShloMosaic Idealize.SL.Sem Idealize.ShloMosaic.Pointwise

/-! ### Least elements of finite families -/

/-- The bits of +∞ read as +∞. -/
theorem ofBits_inf : Ideal.ofBits .f32 0x7F800000#32 = ⊤ := by simp [Ideal.ofBits, Ideal.ieee]

/-- Signed minimum against a lower bound. -/
theorem le_minsi {z x y : BitVec 32} : z.toInt ≤ (IntOp.minsi x y).toInt ↔ z.toInt ≤ x.toInt ∧ z.toInt ≤ y.toInt := by
  unfold IntOp.minsi
  by_cases h : x.toInt < y.toInt
  · rw [if_pos (by simpa [BitVec.slt] using h)]; omega
  · rw [if_neg (by simpa [BitVec.slt] using h)]; omega

/-- The signed minimum of a family that has a least member, and of a start no smaller than that, is that member. -/
theorem fold_minsi {n : ℕ} (b : BitVec 32) (f : Fin n → BitVec 32) (k : Fin n) (hb : (f k).toInt ≤ b.toInt)
    (hf : ∀ x, (f k).toInt ≤ (f x).toInt) : Finset.univ.fold IntOp.minsi b f = f k := by
  apply BitVec.eq_of_toInt_eq
  apply le_antisymm
  · exact ((Finset.fold_op_rel_iff_and (r := fun z w : BitVec 32 => z.toInt ≤ w.toInt) le_minsi).1 le_rfl).2 k (Finset.mem_univ k)
  · exact (Finset.fold_op_rel_iff_and (r := fun z w : BitVec 32 => z.toInt ≤ w.toInt) le_minsi).2 ⟨hb, fun x _ => hf x⟩

section Chunk

variable (S : FVec Ideal S128x2048 .f32) (j : Fin 8) (r : Fin 2048)

/-- A chunk's least score, as the minimum of a column. -/
theorem best_eq : best S (ix2 0 r) = Finset.univ.fold min ⊤ fun q : Fin 128 => S (ix2 q r) := by
  pointwise [best]
  rw [ofBits_inf]

/-- It is no greater than any of the chunk's scores, -/
theorem best_le (q : Fin 128) : best S (ix2 0 r) ≤ S (ix2 q r) := by
  rw [best_eq]
  exact ((Finset.le_fold_min _).1 le_rfl).2 q (Finset.mem_univ q)

/-- and is one of them. -/
theorem best_mem : ∃ q : Fin 128, S (ix2 q r) = best S (ix2 0 r) := by
  rcases (Finset.fold_min_le _).1 (best_eq S r).ge with h | ⟨q, _, h⟩
  · exact ⟨0, le_antisymm (le_top.trans h) (best_le S r 0)⟩
  · exact ⟨q, le_antisymm h (best_le S r q)⟩

/-- A code below 1024 read back from its word. -/
theorem toInt_code {n : ℕ} (h : n ≤ 1024) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- Where a chunk has a given score, the code found for it is the first that has it. -/
theorem firstAt_spec (b : FVec Ideal S1x2048 .f32) (h : ∃ q : Fin 128, S (ix2 q r) = b (ix2 0 r)) :
    ∃ q : Fin 128, S (ix2 q r) = b (ix2 0 r) ∧ firstAt j S b (ix2 0 r) = BitVec.ofNat 32 (128 * j.val + q.val) ∧
      ∀ q' : Fin 128, S (ix2 q' r) = b (ix2 0 r) → q ≤ q' := by
  classical
  obtain ⟨q, hq, hmin⟩ := (Finset.univ.filter fun q : Fin 128 => S (ix2 q r) = b (ix2 0 r)).exists_min_image id
    (by obtain ⟨q, hq⟩ := h; exact ⟨q, by simp [hq]⟩)
  have hq := (Finset.mem_filter.1 hq).2
  have hmin : ∀ q' : Fin 128, S (ix2 q' r) = b (ix2 0 r) → q ≤ q' := fun q' h' => hmin q' (by simp [h'])
  refine ⟨q, hq, ?_, hmin⟩
  have code : ∀ x : Fin 128, IntOp.addi (BitVec.ofNat 32 x.val) (BitVec.ofNat 32 (128 * j.val)) = BitVec.ofNat 32 (128 * j.val + x.val) :=
    fun x => by rw [IntOp.addi, ← BitVec.ofNat_add, Nat.add_comm]
  have hj := j.isLt
  pointwise [firstAt, hits, codes]
  simp only [code]
  rw [fold_minsi _ _ q]
  · rw [if_pos hq]
  · rw [if_pos hq, toInt_code (by omega)]
    have : (2147483647#32).toInt = 2147483647 := by decide
    omega
  · intro x
    rw [if_pos hq, toInt_code (by omega)]
    split
    case isTrue hx => have := hmin x hx; rw [toInt_code (by omega)]; have : q.val ≤ x.val := this; omega
    case isFalse => rw [show (1024#32).toInt = 1024 from by decide]; omega

/-- The code of a chunk's least score is the first minimum of the chunk's range. -/
theorem firstAt_best (s : ℕ → EReal) (hS : ∀ q : Fin 128, S (ix2 q r) = s (128 * j.val + q.val)) :
    FirstOn s (128 * j.val) (128 * (j.val + 1)) (firstAt j S (best S) (ix2 0 r)).toNat ∧
      best S (ix2 0 r) = s (firstAt j S (best S) (ix2 0 r)).toNat := by
  obtain ⟨q, hq, hc, hmin⟩ := firstAt_spec S j r (best S) (best_mem S r)
  have hj := j.isLt
  rw [hc, BitVec.toNat_ofNat, Nat.mod_eq_of_lt (by omega)]
  refine ⟨⟨by omega, by omega, fun k' a b => ?_⟩, by rw [← hq, hS]⟩
  have e : s k' = S (ix2 ⟨k' - 128 * j.val, by omega⟩ r) := by
    rw [hS, show 128 * j.val + (k' - 128 * j.val) = k' by omega]
  rw [e, ← hS, hq]
  exact ⟨best_le S r _, fun h => by have : q.val ≤ k' - 128 * j.val := hmin _ h; omega⟩

/-- The runner-up's code within a chunk is the code of one of its codewords. -/
theorem firstAt_lt (T : FVec Ideal S128x2048 .f32) : (firstAt j T (best T) (ix2 0 r)).toNat < 1024 := by
  obtain ⟨q, -, hc, -⟩ := firstAt_spec T j r (best T) (best_mem T r)
  have hj := j.isLt
  rw [hc, BitVec.toNat_ofNat, Nat.mod_eq_of_lt (by omega)]
  omega

end Chunk

/-! ### The walk -/

/-- What a column carries before chunk `n`, of scores `s`: nothing yet, or the first minimum of the `128 n` scores met
    with its score; and a runner-up that is +∞ or has some codeword's code, the latter from the second chunk on. -/
structure Carries (s : ℕ → EReal) (n : ℕ) (r : Fin 2048) (st : St Ideal) : Prop where
  start : n = 0 → st.m1 (ix2 0 r) = ⊤
  first : 0 < n → FirstOn s 0 (128 * n) (st.i1 (ix2 0 r)).toNat ∧ st.m1 (ix2 0 r) = s (st.i1 (ix2 0 r)).toNat
  other : st.m2 (ix2 0 r) = ⊤ ∨ (st.i2 (ix2 0 r)).toNat < 1024
  second : 2 ≤ n → (st.i2 (ix2 0 r)).toNat < 1024

/-- Before any chunk. -/
theorem carries_zero (s : ℕ → EReal) (r : Fin 2048) : Carries s 0 r st0 where
  start _ := ofBits_inf
  first h := absurd h (lt_irrefl 0)
  other := Or.inl ofBits_inf
  second h := absurd h (by decide)

/-- One chunk, of finite scores, on. -/
theorem carries_step (s : ℕ → EReal) (hs : ∀ k, s k < ⊤) (j : Fin 8) (r : Fin 2048) (S : FVec Ideal S128x2048 .f32)
    (hS : ∀ q : Fin 128, S (ix2 q r) = s (128 * j.val + q.val)) (st : St Ideal) (h : Carries s j.val r st) :
    Carries s (j.val + 1) r (step j S st) := by
  have hj := j.isLt
  obtain ⟨hf, hb⟩ := firstAt_best S j r s hS
  have hl := firstAt_lt j r (masked S)
  have hbt : best S (ix2 0 r) < ⊤ := hb ▸ hs _
  have e1 : (step j S st).m1 (ix2 0 r) = if best S (ix2 0 r) < st.m1 (ix2 0 r) then best S (ix2 0 r) else st.m1 (ix2 0 r) := by
    pointwise [step]
  have e2 : (step j S st).i1 (ix2 0 r)
      = if best S (ix2 0 r) < st.m1 (ix2 0 r) then firstAt j S (best S) (ix2 0 r) else st.i1 (ix2 0 r) := by
    pointwise [step]
  have e3 : (step j S st).m2 (ix2 0 r)
      = if (if best S (ix2 0 r) < st.m1 (ix2 0 r) then best (masked S) (ix2 0 r) else st.m2 (ix2 0 r))
          < (if best S (ix2 0 r) < st.m1 (ix2 0 r) then st.m1 (ix2 0 r) else best S (ix2 0 r))
        then (if best S (ix2 0 r) < st.m1 (ix2 0 r) then best (masked S) (ix2 0 r) else st.m2 (ix2 0 r))
        else (if best S (ix2 0 r) < st.m1 (ix2 0 r) then st.m1 (ix2 0 r) else best S (ix2 0 r)) := by
    pointwise [step]
  have e4 : (step j S st).i2 (ix2 0 r)
      = if (if best S (ix2 0 r) < st.m1 (ix2 0 r) then best (masked S) (ix2 0 r) else st.m2 (ix2 0 r))
          < (if best S (ix2 0 r) < st.m1 (ix2 0 r) then st.m1 (ix2 0 r) else best S (ix2 0 r))
        then (if best S (ix2 0 r) < st.m1 (ix2 0 r) then firstAt j (masked S) (best (masked S)) (ix2 0 r) else st.i2 (ix2 0 r))
        else (if best S (ix2 0 r) < st.m1 (ix2 0 r) then st.i1 (ix2 0 r) else firstAt j S (best S) (ix2 0 r)) := by
    pointwise [step]
  by_cases h0 : j.val = 0
  · have hm := h.start h0
    have ht : best S (ix2 0 r) < st.m1 (ix2 0 r) := hm ▸ hbt
    rw [if_pos ht] at e1 e2
    simp only [if_pos ht] at e3 e4
    simp only [hm] at e3 e4
    refine ⟨fun h => by omega, fun _ => ⟨?_, by rw [e1, e2, hb]⟩, ?_, fun h => by omega⟩
    · rw [e2]; simpa [h0] using hf
    · rw [e3, e4]
      by_cases hu : best (masked S) (ix2 0 r) < ⊤
      · rw [if_pos hu, if_pos hu]; exact Or.inr hl
      · rw [if_neg hu]; exact Or.inl rfl
  · obtain ⟨hF, hM⟩ := h.first (by omega)
    have hi1 : (st.i1 (ix2 0 r)).toNat < 1024 := by have := hF.2.1; omega
    have hfi : (firstAt j S (best S) (ix2 0 r)).toNat < 1024 := by have := hf.2.1; omega
    have hm := hF.merge hf
    rw [← hb, ← hM] at hm
    have hsec : ((step j S st).i2 (ix2 0 r)).toNat < 1024 := by
      rw [e4]
      by_cases ht : best S (ix2 0 r) < st.m1 (ix2 0 r)
      · simp only [if_pos ht]
        split
        · exact hl
        · exact hi1
      · simp only [if_neg ht]
        split
        case isTrue hu => exact (h.other.resolve_left fun e => absurd (e ▸ hu) not_top_lt)
        case isFalse => exact hfi
    refine ⟨fun h => by omega, fun _ => ?_, Or.inr hsec, fun _ => hsec⟩
    rw [e1, e2]
    by_cases ht : best S (ix2 0 r) < st.m1 (ix2 0 r)
    · simp only [if_pos ht] at hm ⊢; exact ⟨hm, hb⟩
    · simp only [if_neg ht] at hm ⊢; exact ⟨hm, hM⟩

/-- Any number of chunks, of finite scores, on. -/
theorem carries_walk (x0 : Vec Ideal S2048x64 .f32) (x1 : Vec Ideal S1024x64 .f32) (s : ℕ → EReal) (hs : ∀ k, s k < ⊤) (r : Fin 2048)
    (hS : ∀ (j : Fin 8) (q : Fin 128), scores x0 x1 j (ix2 q r) = s (128 * j.val + q.val)) :
    ∀ n, n ≤ 8 → Carries s n r (walk x0 x1 n)
  | 0, _ => carries_zero s r
  | n + 1, hn => by
    have e : (Fin.ofNat 8 n).val = n := Nat.mod_eq_of_lt (by omega)
    have := carries_step s hs (Fin.ofNat 8 n) r (scores x0 x1 (Fin.ofNat 8 n)) (hS _) (walk x0 x1 n)
      (by rw [e]; exact carries_walk x0 x1 s hs r hS n (by omega))
    rw [e] at this
    exact this

end Cert.Proof.Column

end
-- ==== Proof.Spec.lean ====
/-
  What is to be computed, in the mathematics of it: of 2048 rows and 1024 codewords, both of 64 numbers, the first
  nearest codeword to each row, that codeword with the row subtracted and added again, and the mean squared difference
  of that from the row plus a quarter of it.
-/
module

public import proofs.«01_k».proof.Proof.First
public import Idealize.ShloMosaic.Lib.Pointwise

@[expose] public section

noncomputable section

namespace Cert.Proof.Spec

open Cert.Proof.First
open Idealize.ShloMosaic Idealize.ShloMosaic.Pointwise

variable (X : (⟨2, ![2048, 64]⟩ : Shape).Idx → EReal) (C : (⟨2, ![1024, 64]⟩ : Shape).Idx → EReal)

/-- Every number of the two arrays is a real one. -/
structure Finite : Prop where
  rows : ∀ i, ((X i).toReal : EReal) = X i
  words : ∀ i, ((C i).toReal : EReal) = C i

/-- Row `r`'s coordinates as real numbers. -/
def row (r : Fin 2048) (d : Fin 64) : ℝ := (X (ix2 r d)).toReal

/-- Codeword `k`'s coordinates as real numbers (`k` is a number below 1024; others wrap round). -/
def word (k : ℕ) (d : Fin 64) : ℝ := (C (ix2 (Fin.ofNat 1024 k) d)).toReal

/-- The squared distance of row `r` from codeword `k`. -/
def dist (r : Fin 2048) (k : ℕ) : ℝ := ∑ d, (row X r d - word C k d) * (row X r d - word C k d)

/-- `k` is the first codeword nearest to row `r`. -/
def Near (r : Fin 2048) (k : ℕ) : Prop := FirstOn (fun k => (dist X C r k : EReal)) 0 1024 k

/-- The first codeword nearest to row `r`. -/
def near (r : Fin 2048) : ℕ := Classical.epsilon (Near X C r)

/-- There is only one. -/
theorem near_eq {r : Fin 2048} {k : ℕ} (h : Near X C r k) : near X C r = k :=
  (Classical.epsilon_spec (p := Near X C r) ⟨k, h⟩).unique h

/-- The nearest codeword's coordinate, less the row's and with the row's added again. -/
def quant (r : Fin 2048) (d : Fin 64) : EReal :=
  X (ix2 r d) + (C (ix2 (Fin.ofNat 1024 (near X C r)) d) - X (ix2 r d))

/-- The sum of the squared differences of that from the rows. -/
def total : EReal := ∑ r, ∑ d, (quant X C r d - X (ix2 r d)) * (quant X C r d - X (ix2 r d))

/-- Its mean over the 131072 numbers plus a quarter of it. -/
def loss : EReal :=
  Ideal.div (total X C) (Ideal.ofBits .f32 0x48000000#32)
    + Ideal.ofBits .f32 0x3E800000#32 * Ideal.div (total X C) (Ideal.ofBits .f32 0x48000000#32)

/-- The place of batch `a`'s row `b` among the 2048. -/
def flat (a : Fin 2) (b : Fin 1024) : Fin 2048 := ⟨a.val * 1024 + b.val, by omega⟩

/-- The squared length of codeword `k` less twice its product with row `r`: the distance but for the row's own
    squared length. -/
def score (r : Fin 2048) (k : ℕ) : ℝ := ∑ d, word C k d * word C k d - 2 * ∑ d, word C k d * row X r d

theorem dist_eq (r : Fin 2048) (k : ℕ) : dist X C r k = score X C r k + ∑ d, row X r d * row X r d := by
  rw [dist, score, Finset.mul_sum, ← Finset.sum_sub_distrib, ← Finset.sum_add_distrib]
  exact Finset.sum_congr rfl fun d _ => by ring

/-- The first minimum of the scores is the first nearest codeword. -/
theorem near_of_score {r : Fin 2048} {k : ℕ} (h : FirstOn (fun k => (score X C r k : EReal)) 0 1024 k) : Near X C r k :=
  h.congr fun a b => by rw [EReal.coe_le_coe_iff, EReal.coe_le_coe_iff, dist_eq, dist_eq]; exact (add_le_add_iff_right _).symm

end Cert.Proof.Spec

end
-- ==== Proof.Parts.lean ====
/-
  The parts the kernel splits its inputs into. With exact arithmetic the high part of a number is the number and the
  other parts are zero. So a chunk's score is the codeword's squared length less twice its product with the row, and the
  one-hot fetch of a codeword's three parts brings back the codeword.
-/
module

public import proofs.«01_k».proof.Proof.Column
public import proofs.«01_k».proof.Proof.Spec
public import Idealize.ShloMosaic.Lib.Pipeline.ValueKit

@[expose] public section

set_option maxRecDepth 16384

noncomputable section

namespace Cert.Proof.Parts

open Cert.KernelIdeal Cert.KernelIdeal.Gen Cert.Proof.Chunks Cert.Proof.Spec Cert.Proof.First Cert.Proof.Column
open Idealize.ShloMosaic Idealize.SL.Sem Idealize.ShloMosaic.Pointwise

variable (x0 : Vec Ideal S2048x64 .f32) (x1 : Vec Ideal S1024x64 .f32)

/-! ### The parts -/

/-- Loading the whole codeword block. -/
theorem ld_words : View.ld x1 r0_1 = x1 := View.ld_unit_zero (S := S1024x64) (by decide) _ _

/-- Loading the whole row block. -/
theorem ld_rows : View.ld x0 r0_0 = x0 := View.ld_unit_zero (S := S2048x64) (by decide) _ _

/-- The rows as the kernel first sees them. -/
theorem rows_apply (r : Fin 2048) (d : Fin 64) : k0_pay185 x0 x1 (ix2 r d) = x0 (ix2 r d) := by
  pointwise [k0_pay185, k0_pay5, ld_rows]

/-- The rows transposed. -/
theorem cols_apply (r : Fin 2048) (d : Fin 64) : k0_pay186 x0 x1 (ix2 d r) = x0 (ix2 r d) := by
  pointwise [k0_pay186, k0_pay6, k0_pay5, ld_rows]

/-- The codewords' high part. -/
theorem high_apply (k : Fin 1024) (d : Fin 64) : k0_pay187 x0 x1 (ix2 k d) = x1 (ix2 k d) := by
  pointwise [k0_pay187, k0_pay7, ld_words]

/-- The codewords' middle part. -/
theorem mid_apply (k : Fin 1024) (d : Fin 64) : k0_pay188 x0 x1 (ix2 k d) = x1 (ix2 k d) - x1 (ix2 k d) := by
  pointwise [k0_pay188, k0_pay9, k0_pay8, k0_pay7, ld_words]

/-- The codewords' low part. -/
theorem low_apply (k : Fin 1024) (d : Fin 64) :
    k0_pay189 x0 x1 (ix2 k d) = x1 (ix2 k d) - x1 (ix2 k d) - (x1 (ix2 k d) - x1 (ix2 k d)) := by
  pointwise [k0_pay189, k0_pay10, k0_pay9, k0_pay8, k0_pay7, ld_words]

/-- The rows' high part. -/
theorem rowHigh_apply (r : Fin 2048) (d : Fin 64) : k0_pay190 x0 x1 (ix2 r d) = x0 (ix2 r d) := by
  pointwise [k0_pay190, k0_pay11, k0_pay5, ld_rows]

/-- The rows' low part. -/
theorem rowLow_apply (r : Fin 2048) (d : Fin 64) : k0_pay191 x0 x1 (ix2 r d) = x0 (ix2 r d) - x0 (ix2 r d) := by
  pointwise [k0_pay191, k0_pay12, k0_pay11, k0_pay5, ld_rows]

/-! ### The scores -/

/-- The bits of two read as two. -/
theorem ofBits_two : Ideal.ofBits .f32 0x40000000#32 = ((2 : ℝ) : EReal) := by
  simp [Ideal.ofBits, Ideal.ieee, -EReal.coe_mul]; norm_num

variable {x0 x1} (hfin : Finite x0 x1)
include hfin

theorem row_eq (r : Fin 2048) (d : Fin 64) : x0 (ix2 r d) = (row x0 r d : EReal) := (hfin.rows _).symm

theorem word_eq (k : Fin 1024) (d : Fin 64) : x1 (ix2 k d) = (word x1 k.val d : EReal) := by
  rw [word, Fin.ofNat_val_eq_self, hfin.words]

/-- A chunk's scores. -/
theorem scores_apply (r : Fin 2048) (j : Fin 8) (q : Fin 128) :
    scores x0 x1 j (ix2 q r) = (score x0 x1 r (128 * j.val + q.val) : EReal) := by
  unfold scores
  pointwise [Chunks.score, cut, ld_words]
  simp only [high_apply, mid_apply, rowHigh_apply, rowLow_apply, row_eq hfin, word_eq hfin, ofBits_two, ← EReal.coe_sub, ← EReal.coe_mul,
    coe_sum, ← EReal.coe_add, sub_self, zero_mul, mul_zero, Finset.sum_const_zero, add_zero]
  rfl

/-- After the last chunk the code carried is the first nearest codeword's, -/
theorem best_near (r : Fin 2048) : Near x0 x1 r (k0_pay247 x0 x1 (ix2 0 r)).toNat := by
  have h := carries_walk x0 x1 (fun k => (Spec.score x0 x1 r k : EReal)) (fun k => EReal.coe_lt_top _) r (scores_apply hfin r) 8 le_rfl
  have := (h.first (by decide)).1
  rw [walk8_i1] at this
  exact near_of_score x0 x1 this

/-- and the runner-up's is some codeword's. -/
theorem second_lt (r : Fin 2048) : (k0_pay248 x0 x1 (ix2 0 r)).toNat < 1024 := by
  have h := carries_walk x0 x1 (fun k => (Spec.score x0 x1 r k : EReal)) (fun k => EReal.coe_lt_top _) r (scores_apply hfin r) 8 le_rfl
  have := h.second (by decide)
  rwa [walk8_i2] at this

/-! ### The fetch -/

/-- One chunk's contribution: the codeword's coordinate if the code is in the chunk, else nothing. -/
theorem fetchStep_apply (i : IVec S1x2048 32) (j : Fin 8) (acc : FVec Ideal S64x2048 .f32) (d : Fin 64) (r : Fin 2048) :
    fetchStep (k0_pay187 x0 x1) (k0_pay188 x0 x1) (k0_pay189 x0 x1) i j acc (ix2 d r)
      = acc (ix2 d r) + ((if (i (ix2 0 r)).toNat / 128 = j.val then word x1 (i (ix2 0 r)).toNat d else 0 : ℝ) : EReal) := by
  have hj := j.isLt
  have hot : ∀ x : Fin 128, FloatOps.sitofp (F := Ideal) .f32 (BitVec.setWidth 32 (IntOp.cmpi CmpIPredicate.eq
      (IntOp.addi (BitVec.ofNat 32 x.val) (BitVec.ofNat 32 (128 * j.val))) (i (ix2 0 r))))
      = ((if 128 * j.val + x.val = (i (ix2 0 r)).toNat then 1 else 0 : ℝ) : EReal) := by
    intro x
    have hx := x.isLt
    have e : (IntOp.addi (BitVec.ofNat 32 x.val) (BitVec.ofNat 32 (128 * j.val))).toNat = 128 * j.val + x.val := by
      rw [IntOp.addi, ← BitVec.ofNat_add, BitVec.toNat_ofNat]; omega
    show (((BitVec.setWidth 32 (BitVec.ofBool (_ == _))).toInt : ℝ) : EReal) = _
    by_cases h : 128 * j.val + x.val = (i (ix2 0 r)).toNat
    · rw [if_pos h, beq_iff_eq.2 (BitVec.eq_of_toNat_eq (e.trans h))]
      simp
    · rw [if_neg h, beq_eq_false_iff_ne.2 fun h' => h (e.symm.trans (congrArg BitVec.toNat h'))]
      simp
  pointwise [fetchStep, oneHot, codes, cut]
  simp only [high_apply, mid_apply, low_apply, hot, word_eq hfin, ← EReal.coe_sub, ← EReal.coe_mul,
    coe_sum, ← EReal.coe_add, sub_self, zero_mul, mul_zero, Finset.sum_const_zero, EReal.coe_zero, sub_zero, add_zero]
  congr 2
  by_cases h : (i (ix2 0 r)).toNat / 128 = j.val
  · rw [if_pos h, Finset.sum_eq_single ⟨(i (ix2 0 r)).toNat % 128, Nat.mod_lt _ (by decide)⟩]
    · have e : 128 * j.val + (i (ix2 0 r)).toNat % 128 = (i (ix2 0 r)).toNat := by omega
      simp only [e, if_true, mul_one]
    · intro x _ hx
      rw [if_neg fun h' => hx (Fin.ext (by simp only; omega)), mul_zero]
    · intro h'; exact absurd (Finset.mem_univ _) h'
  · rw [if_neg h]
    refine Finset.sum_eq_zero fun x _ => ?_
    rw [if_neg fun h' => h (by omega), mul_zero]

/-- The fetch before chunk `n`: the codeword if its code was among the chunks done, else zeros. -/
theorem fetch_apply (i : IVec S1x2048 32) (d : Fin 64) (r : Fin 2048) :
    ∀ n, n ≤ 8 → fetch (k0_pay187 x0 x1) (k0_pay188 x0 x1) (k0_pay189 x0 x1) i n (ix2 d r)
      = ((if (i (ix2 0 r)).toNat / 128 < n then word x1 (i (ix2 0 r)).toNat d else 0 : ℝ) : EReal)
  | 0, _ => by rw [if_neg (Nat.not_lt_zero _), EReal.coe_zero]; exact Ideal.ofBits_zero_f32
  | n + 1, hn => by
    have e : (Fin.ofNat 8 n).val = n := Nat.mod_eq_of_lt (by omega)
    rw [fetch, fetchStep_apply hfin, fetch_apply i d r n (by omega), e, ← EReal.coe_add]
    congr 1
    by_cases h : (i (ix2 0 r)).toNat / 128 = n
    · rw [if_neg (by omega), if_pos h, if_pos (by omega), zero_add]
    · rw [if_neg h, add_zero]
      exact if_congr (by omega) rfl rfl

/-- The fetch of a codeword by its code. -/
theorem fetch_word (i : IVec S1x2048 32) (d : Fin 64) (r : Fin 2048) (hi : (i (ix2 0 r)).toNat < 1024) :
    fetch (k0_pay187 x0 x1) (k0_pay188 x0 x1) (k0_pay189 x0 x1) i 8 (ix2 d r) = (word x1 (i (ix2 0 r)).toNat d : EReal) := by
  rw [fetch_apply hfin i d r 8 le_rfl, if_pos (by omega)]

/-- A row's squared distance from the codeword fetched for it. -/
theorem apart_fetch (i : IVec S1x2048 32) (r : Fin 2048) (hi : (i (ix2 0 r)).toNat < 1024) :
    apart (k0_pay186 x0 x1) (fetch (k0_pay187 x0 x1) (k0_pay188 x0 x1) (k0_pay189 x0 x1) i 8) (ix1 r)
      = (dist x0 x1 r (i (ix2 0 r)).toNat : EReal) := by
  pointwise [apart]
  simp only [fetch_word hfin i _ r hi, cols_apply, row_eq hfin, ← EReal.coe_sub, ← EReal.coe_mul, coe_sum]
  rfl

end Cert.Proof.Parts

end
-- ==== Proof.Block.lean ====
/-
  What the kernel's one block leaves in its three output windows. The runner-up, re-examined by exact distances, never
  beats the code the walk found, which is the first nearest; so the windows hold that codeword's straight-through row, its
  code, and the sum of the squared differences.
-/
module

public import proofs.«01_k».proof.Proof.Parts

@[expose] public section

set_option maxRecDepth 16384

noncomputable section

namespace Cert.Proof.Block

open Cert.KernelIdeal Cert.KernelIdeal.Gen Cert.Proof.Chunks Cert.Proof.Spec Cert.Proof.First Cert.Proof.Column Cert.Proof.Parts
open Idealize.ShloMosaic Idealize.SL.Sem Idealize.ShloMosaic.Pointwise

variable {x0 : Vec Ideal S2048x64 .f32} {x1 : Vec Ideal S1024x64 .f32} (hfin : Finite x0 x1)
include hfin

/-- The code found by the walk. -/
theorem code_eq (r : Fin 2048) : (k0_pay247 x0 x1 (ix2 0 r)).toNat = near x0 x1 r :=
  (near_eq x0 x1 (best_near hfin r)).symm

/-- The first nearest codeword is one of the 1024. -/
theorem near_lt (r : Fin 2048) : near x0 x1 r < 1024 := code_eq hfin r ▸ (best_near hfin r).2.1

/-- The distance of the codeword found. -/
theorem apart_one (r : Fin 2048) : k0_pay256 x0 x1 (ix2 0 r) = (dist x0 x1 r (near x0 x1 r) : EReal) := by
  rw [← apart_best, ← fetch_best, ← code_eq hfin r, ← apart_fetch hfin _ r (best_near hfin r).2.1]
  pointwise

/-- The distance of the runner-up. -/
theorem apart_two (r : Fin 2048) : k0_pay257 x0 x1 (ix1 r) = (dist x0 x1 r (k0_pay248 x0 x1 (ix2 0 r)).toNat : EReal) := by
  rw [← apart_second, ← fetch_second, apart_fetch hfin _ r (second_lt hfin r)]

/-- The runner-up is never taken. -/
theorem not_second (r : Fin 2048) :
    k0_pay1 (k0_pay247 x0 x1) (k0_pay248 x0 x1) (k0_pay256 x0 x1) (k0_pay257 x0 x1) (ix2 0 r) = 0#1 := by
  have hn := best_near hfin r
  have hl := hn.2.2 _ (Nat.zero_le _) (second_lt hfin r)
  have hs := second_lt hfin r
  have hb := hn.2.1
  pointwise [k0_pay1]
  rw [apart_one hfin r, apart_two hfin r, ← code_eq hfin r, decide_eq_false (not_lt.2 hl.1)]
  by_cases he : (dist x0 x1 r (k0_pay248 x0 x1 (ix2 0 r)).toNat : EReal) = dist x0 x1 r (k0_pay247 x0 x1 (ix2 0 r)).toNat
  · have hle := hl.2 he
    have : BitVec.slt (k0_pay248 x0 x1 (ix2 0 r)) (k0_pay247 x0 x1 (ix2 0 r)) = false := by
      rw [BitVec.slt, decide_eq_false]
      rw [BitVec.toInt_eq_toNat_of_lt (by omega), BitVec.toInt_eq_toNat_of_lt (by omega)]
      omega
    rw [IntOp.cmpi, this, decide_eq_true he]
    rfl
  · rw [decide_eq_false he]
    unfold IntOp.ori IntOp.andi
    simp

/-- The codeword taken. -/
theorem taken (r : Fin 2048) (d : Fin 64) : k0_pay254 x0 x1 (ix2 d r) = x1 (ix2 (Fin.ofNat 1024 (near x0 x1 r)) d) := by
  rw [← fetch_best, fetch_word hfin _ d r (best_near hfin r).2.1, code_eq hfin r, word, hfin.words]

/-- The first window's block, row by row. -/
theorem quant_apply (r : Fin 2048) (d : Fin 64) : k0_pay2 (k0_pay185 x0 x1) (k0_pay247 x0 x1) (k0_pay248 x0 x1) (k0_pay254 x0 x1)
    (k0_pay255 x0 x1) (k0_pay256 x0 x1) (k0_pay257 x0 x1) (ix2 r d) = quant x0 x1 r d := by
  pointwise [k0_pay2]
  rw [not_second hfin r, rows_apply, taken hfin r d]
  rfl

/-- The second window's block. -/
theorem code_apply (r : Fin 2048) : k0_pay3 (k0_pay247 x0 x1) (k0_pay248 x0 x1) (k0_pay256 x0 x1) (k0_pay257 x0 x1) (ix3 0 0 r)
    = BitVec.ofNat 32 (near x0 x1 r) := by
  pointwise [k0_pay3]
  rw [not_second hfin r, ← code_eq hfin r, BitVec.ofNat_toNat]
  simp [Scalar.select]

/-- The same at any index: the two leading axes have one position each. -/
theorem code_at (j : S1x1x2048.Idx) : k0_pay3 (k0_pay247 x0 x1) (k0_pay248 x0 x1) (k0_pay256 x0 x1) (k0_pay257 x0 x1) j
    = BitVec.ofNat 32 (near x0 x1 (j 2)) := by
  have e : j = ix3 0 0 (j 2) := by
    conv_lhs => rw [eq_ix3 j]
    rw [show j 0 = (0 : Fin 1) from Fin.eq_zero _, show j 1 = (0 : Fin 1) from Fin.eq_zero _]
    rfl
  rw [e]
  exact code_apply hfin (j 2)

/-- The third window's block. -/
theorem total_apply : k0_pay4 (k0_pay185 x0 x1) (k0_pay247 x0 x1) (k0_pay248 x0 x1) (k0_pay254 x0 x1)
    (k0_pay255 x0 x1) (k0_pay256 x0 x1) (k0_pay257 x0 x1) (ix3 0 0 0) = total x0 x1 := by
  pointwise [k0_pay4]
  simp only [quant_apply hfin, rows_apply]
  rfl

/-- The same at any index: there is one. -/
theorem total_at (j : S1x1x1.Idx) : k0_pay4 (k0_pay185 x0 x1) (k0_pay247 x0 x1) (k0_pay248 x0 x1) (k0_pay254 x0 x1)
    (k0_pay255 x0 x1) (k0_pay256 x0 x1) (k0_pay257 x0 x1) j = total x0 x1 := by
  have e : j = ix3 0 0 0 := by
    conv_lhs => rw [eq_ix3 j]
    rw [show j 0 = (0 : Fin 1) from Fin.eq_zero _, show j 1 = (0 : Fin 1) from Fin.eq_zero _, show j 2 = (0 : Fin 1) from Fin.eq_zero _]
  rw [e]
  exact total_apply hfin

end Cert.Proof.Block

end
-- ==== Proof.Kernel.lean ====
/-
  The kernel's whole program. Its one block is its whole arrays, so the three windows' arrays after the run are the
  block's; the host lines after it lay the first two out again and turn the sum into the loss.
-/
module

public import proofs.«01_k».proof.Proof.Block
public import Idealize.ShloMosaic.Lib.Claim

@[expose] public section

set_option maxRecDepth 16384

noncomputable section

namespace Cert.Proof.Kernel

open Cert.KernelIdeal Cert.KernelIdeal.Gen Cert.Proof.Spec Cert.Proof.Block
open Idealize.ShloMosaic Idealize.SL.Sem Idealize.ShloMosaic.Pointwise

variable (m : (ℓ : Loc nD τ sig) → Buf (Elt Ideal) ℓ) (c : Dev nD)

/-- The first argument laid out as 2048 rows. -/
def rows : S2048x64.Idx → EReal := shapeCast S2048x64 (m ((c.tc : Thread nD τ).loc main_arg0)) shapeCasts_S2x1024x64_S2048x64

/-- The second argument, the codewords. -/
def words : S1024x64.Idx → EReal := m ((c.tc : Thread nD τ).loc main_arg1)

/-- Every window's block index at the one point. -/
theorem idx : ∀ t : Fin cfg0.N, win0_0.index t = ![0, 0] ∧ win0_1.index t = ![0, 0] ∧ win0_2.index t = ![0, 0] ∧
    win0_3.index t = ![0, 0, 0] ∧ win0_4.index t = ![0, 0, 0] :=
  (by decide +kernel : ∀ t : Fin grid0.N, _)

/-- The row window's block. -/
theorem block_rows : iblk m c 0 t0_0 = rows m c := by
  have e : V m c main_v0 = rows m c := by entry_read; rfl
  blk_ext! [iblk, idx t0_0, e]

/-- The codeword window's block. -/
theorem block_words : iblk m c 1 t0_0 = words m c := by
  have e : V m c main_arg1 = words m c := by entry_read; rfl
  blk_ext! [iblk, idx t0_0, e]

variable (hfin : Finite (rows m c) (words m c))
include hfin

/-- The first window's array after the run: the straight-through rows. -/
theorem array_quant : (dats m 0 c).arrAt 2 (cfgs 0).N = fun i => quant (rows m c) (words m c) (i 0) (i 1) := by
  refine (dats m 0 c).arrAt_eq_of_after_last 2 t0_0 (by decide +kernel) _ fun j => ?_
  blk_simp
  rw [after0_2, block_rows, block_words]
  frame_out
  rw [eq_ix2 j]
  exact quant_apply hfin (j 0) (j 1)

/-- The second window's: the codes. -/
theorem array_codes : (dats m 0 c).arrAt 3 (cfgs 0).N = fun i => BitVec.ofNat 32 (near (rows m c) (words m c) (i 2)) := by
  refine (dats m 0 c).arrAt_eq_of_after_last 3 t0_0 (by decide +kernel) _ fun j => ?_
  blk_simp
  rw [after0_3, block_rows, block_words]
  frame_out
  exact code_at hfin j

/-- The third window's: the sum of the squared differences. -/
theorem array_total : (dats m 0 c).arrAt 4 (cfgs 0).N = fun _ => total (rows m c) (words m c) := by
  refine (dats m 0 c).arrAt_eq_of_after_last 4 t0_0 (by decide +kernel) _ fun j => ?_
  blk_simp
  rw [after0_4, block_rows, block_words]
  frame_out
  exact total_at hfin j

/-- What the host lines read of the first window's array, -/
theorem exit_quant : Pipeline.withArrays (cfgs 0).spec c (V0 m c) (fun w => (dats m 0 c).arrAt w (cfgs 0).N) (Proc.tc.devRef main_v1_0)
    = fun i => quant (rows m c) (words m c) (i 0) (i 1) :=
  (Pipeline.withArrays_arr (cfgs 0).spec (by decide) c _ _ 2).trans (array_quant m c hfin)

/-- of the second's, -/
theorem exit_codes : Pipeline.withArrays (cfgs 0).spec c (V0 m c) (fun w => (dats m 0 c).arrAt w (cfgs 0).N) (Proc.tc.devRef main_v1_1)
    = fun i => BitVec.ofNat 32 (near (rows m c) (words m c) (i 2)) :=
  (Pipeline.withArrays_arr (cfgs 0).spec (by decide) c _ _ 3).trans (array_codes m c hfin)

/-- and of the third's. -/
theorem exit_total : Pipeline.withArrays (cfgs 0).spec c (V0 m c) (fun w => (dats m 0 c).arrAt w (cfgs 0).N) (Proc.tc.devRef main_v1_2)
    = fun _ => total (rows m c) (words m c) :=
  (Pipeline.withArrays_arr (cfgs 0).spec (by decide) c _ _ 4).trans (array_total m c hfin)

/-- The first result. -/
theorem result_quant : Pipeline.afterTail₀ cfgs (dats m) 0 (V0 m) [hostOps1] c main_v6
    = fun i => quant (rows m c) (words m c) (flat (i 0) (i 1)) (i 2) := by
  show StableHlo.after hostOps1 _ (Proc.devRef .tc main_v6) = _
  after_results
  rw [exit_quant m c hfin]
  funext i
  show shapeCast S2x1024x64 _ shapeCasts_S2048x64_S2x1024x64 i = _
  rw [eq_ix3 i]
  pointwise
  rfl

/-- The second result. -/
theorem result_codes : Pipeline.afterTail₀ cfgs (dats m) 0 (V0 m) [hostOps1] c main_v7
    = fun i => BitVec.ofNat 32 (near (rows m c) (words m c) (flat (i 0) (i 1))) := by
  show StableHlo.after hostOps1 _ (Proc.devRef .tc main_v7) = _
  after_results
  rw [exit_codes m c hfin]
  funext i
  show shapeCast S2x1024 _ shapeCasts_S1x1x2048_S2x1024 i = _
  rw [eq_ix2 i]
  pointwise
  rfl

/-- The third result. -/
theorem result_loss : Pipeline.afterTail₀ cfgs (dats m) 0 (V0 m) [hostOps1] c main_v5
    = fun _ => loss (rows m c) (words m c) := by
  show StableHlo.after hostOps1 _ (Proc.devRef .tc main_v5) = _
  after_results
  rw [exit_total m c hfin]
  funext i
  pointwise
  simp only [Finset.univ_unique, Finset.sum_singleton]
  rfl

end Cert.Proof.Kernel

end
-- ==== Proof.Argmin.lean ====
/-
  The reference's search for the least distance. It folds a two-way choice over a row's pairs of a distance and its
  position. Whatever the order of the pairs, the outcome is one of them (or what the fold began with), none has a smaller
  distance, and of those with as small a distance none has a smaller position.
-/
module

public import proofs.«01_k».proof.Proof.First
public import proofs.«01_k».proof.Proof.Column
public import proofs.«01_k».proof.Proof.Gen.ReferenceIdeal
public import Idealize.ShloMosaic.Lib.Pointwise
public import Idealize.ShloMosaic.PureOps.Ideal.Laws

@[expose] public section

set_option maxRecDepth 16384

noncomputable section

namespace Cert.Proof.Argmin

open Cert.ReferenceIdeal Cert.ReferenceIdeal.Facts₀ Cert.Proof.First Cert.Proof.Column
open Idealize.ShloMosaic Idealize.ShloMosaic.Pointwise

/-- `a`'s distance is smaller than `b`'s, or as small and `a`'s position not after `b`'s. -/
def Before (a b : EReal × BitVec 32) : Prop := a.1 < b.1 ∨ (a.1 = b.1 ∧ a.2.toInt ≤ b.2.toInt)

theorem Before.refl (a : EReal × BitVec 32) : Before a a := .inr ⟨rfl, le_rfl⟩

theorem Before.trans {a b c : EReal × BitVec 32} (h : Before a b) (k : Before b c) : Before a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- The choice between two pairs. -/
def pick (a b : EReal × BitVec 32) : EReal × BitVec 32 := reducer_argmin_f32_i32 (F := Ideal) a b

theorem pick_eq (a b : EReal × BitVec 32) : pick a b =
    (if a.1 < b.1 then a.1 else b.1, if a.1 < b.1 ∨ (a.1 = b.1 ∧ a.2.toInt < b.2.toInt) then a.2 else b.2) := by
  pointwise [pick, reducer_argmin_f32_i32]
  by_cases h : a.1 < b.1 <;> by_cases k : a.1 = b.1 <;> by_cases l : a.2.toInt < b.2.toInt <;>
    simp [h, k, l, IntOp.ori, IntOp.andi, IntOp.cmpi, BitVec.slt, Scalar.select]

/-- It is one of the two. -/
theorem pick_mem (a b : EReal × BitVec 32) : pick a b = a ∨ pick a b = b := by
  rw [pick_eq]
  by_cases h : a.1 < b.1
  · exact .inl (by rw [if_pos h, if_pos (.inl h)])
  · rw [if_neg h]
    by_cases k : a.1 = b.1 ∧ a.2.toInt < b.2.toInt
    · exact .inl (by rw [if_pos (.inr k), ← k.1])
    · exact .inr (by rw [if_neg (not_or.2 ⟨h, k⟩)])

/-- And before both. -/
theorem pick_before (a b : EReal × BitVec 32) : Before (pick a b) a ∧ Before (pick a b) b := by
  rw [pick_eq]
  rcases lt_trichotomy a.1 b.1 with h | h | h
  · rw [if_pos h, if_pos (.inl h)]
    exact ⟨.refl a, .inl h⟩
  · rw [if_neg h.not_lt]
    by_cases k : a.2.toInt < b.2.toInt
    · rw [if_pos (.inr ⟨h, k⟩)]
      exact ⟨.inr ⟨h.symm, le_rfl⟩, .inr ⟨rfl, k.le⟩⟩
    · rw [if_neg (not_or.2 ⟨h.not_lt, fun e => k e.2⟩)]
      exact ⟨.inr ⟨h.symm, not_lt.1 k⟩, .refl b⟩
  · rw [if_neg h.not_gt, if_neg (not_or.2 ⟨h.not_gt, fun e => h.ne' e.1⟩)]
    exact ⟨.inl h, .refl b⟩

/-- The fold's outcome is what it began with or in the list. -/
theorem fold_mem (l : List (EReal × BitVec 32)) : ∀ a, l.foldl pick a = a ∨ l.foldl pick a ∈ l := by
  induction l with
  | nil => exact fun a => .inl rfl
  | cons p l ih =>
    intro a
    rw [List.foldl_cons]
    rcases ih (pick a p) with h | h
    · rw [h]
      rcases pick_mem a p with e | e
      · exact .inl e
      · exact .inr (by rw [e]; exact List.mem_cons_self)
    · exact .inr (List.mem_cons_of_mem _ h)

/-- It is before what the fold began with and before every pair. -/
theorem fold_before (l : List (EReal × BitVec 32)) :
    ∀ a, Before (l.foldl pick a) a ∧ ∀ p ∈ l, Before (l.foldl pick a) p := by
  induction l with
  | nil => exact fun a => ⟨.refl a, fun p h => absurd h List.not_mem_nil⟩
  | cons p l ih =>
    intro a
    rw [List.foldl_cons]
    have h := ih (pick a p)
    refine ⟨h.1.trans (pick_before a p).1, fun q hq => ?_⟩
    rcases List.mem_cons.1 hq with rfl | hq
    · exact h.1.trans (pick_before a q).2
    · exact h.2 q hq

/-- The positions of the reference's search: each its own place in the row. -/
theorem place (j : S2048x1024.Idx) : iotaInDim S2048x1024 32 1 j = BitVec.ofNat 32 (j 1).val := rfl

/-- The search is the fold of its choice over the pairs at its place. -/
theorem search_eq {s t u : Shape} {axes : List (Fin s.rank)} (f : EReal × BitVec 32 → EReal × BitVec 32 → EReal × BitVec 32)
    (x : s.Idx → EReal) (y : s.Idx → BitVec 32) (ix : u.Idx → EReal) (iy : u.Idx → BitVec 32) (h : s.ReducesTo axes t)
    (hu : 0 < u.numel) (j : t.Idx) :
    Host.argReduce (F := Ideal) (φ := .f32) f x y ix iy h hu j
      = (Host.argReduceFiber x y h j).foldl f (ix (Shape.Idx.first hu), iy (Shape.Idx.first hu)) :=
  (congrFun (Ideal.argReduce_eq_reduce2 (φ := .f32) f x y ix iy h hu) j).trans
    (Host.reduce2_eq_foldl_fiber f x y ix iy h hu j)

/-- What the search begins with: infinity, at position 0. -/
def start : S_.Idx → EReal := constant (F := Ideal) S_ .f32 0x7F800000#32

theorem start_apply (i : S_.Idx) : start i = ⊤ := ofBits_inf

/-- A pair's position. -/
def position (p : EReal × BitVec 32) : BitVec 32 := p.2

/-- The search's codes of an array of distances. -/
def codes (D : S2048x1024.Idx → EReal) : S2048.Idx → BitVec 32 := fun j =>
  position (Host.argReduce (F := Ideal) (φ := .f32) pick D (iotaInDim S2048x1024 32 1) start (constantI S_ 32 0#32)
    reducesTo_S2048x1024_S2048_d1 h_S_ j)

/-- The pairs the search runs over at row `r` are that row's. -/
theorem pairs (D : S2048x1024.Idx → EReal) (r : Fin 2048) (p : EReal × BitVec 32) :
    p ∈ Host.argReduceFiber D (iotaInDim S2048x1024 32 1) reducesTo_S2048x1024_S2048_d1 (ix1 r) ↔
      ∃ k : Fin 1024, p = (D (ix2 r k), BitVec.ofNat 32 k.val) := by
  rw [Host.argReduceFiber]
  simp only [List.mem_map, List.mem_filter, List.mem_finRange, true_and, decide_eq_true_eq]
  constructor
  · rintro ⟨n, hn, rfl⟩
    obtain ⟨k, hk⟩ := (reducesTo_S2048x1024_S2048_d1.fiber_r2_a1 _ _).1 hn
    exact ⟨k, by rw [← hk]; rfl⟩
  · rintro ⟨k, rfl⟩
    refine ⟨S2048x1024.rowMajor (ix2 r k), ?_, ?_⟩
    · rw [Equiv.symm_apply_apply]
      exact (reducesTo_S2048x1024_S2048_d1.fiber_r2_a1 _ _).2 ⟨k, rfl⟩
    · rw [Equiv.symm_apply_apply]; rfl

/-- Of a row of real distances the search finds the first least one. -/
theorem codes_apply (D : S2048x1024.Idx → EReal) (r : Fin 2048) (s : ℕ → ℝ)
    (hs : ∀ k : Fin 1024, D (ix2 r k) = ((s k.val : ℝ) : EReal)) :
    ∃ k, FirstOn (fun k => (s k : EReal)) 0 1024 k ∧ codes D (ix1 r) = BitVec.ofNat 32 k := by
  rw [show codes D (ix1 r) = position _ from rfl, search_eq, start_apply]
  generalize hl : Host.argReduceFiber D (iotaInDim S2048x1024 32 1) reducesTo_S2048x1024_S2048_d1 (ix1 r) = l
  have hp : ∀ p, p ∈ l ↔ ∃ k : Fin 1024, p = ((s k.val : EReal), BitVec.ofNat 32 k.val) := fun p => by
    rw [← hl, pairs]; simp only [hs]
  have hb := (fold_before l (⊤, constantI S_ 32 0#32 (Shape.Idx.first h_S_))).2
  have hm : l.foldl pick (⊤, constantI S_ 32 0#32 (Shape.Idx.first h_S_)) ∈ l := (fold_mem l _).resolve_left fun h => by
    have b := hb _ ((hp _).2 ⟨0, rfl⟩)
    rw [h] at b
    rcases b with b | b
    · exact absurd b not_top_lt
    · exact EReal.coe_ne_top _ b.1.symm
  obtain ⟨k, hk⟩ := (hp _).1 hm
  refine ⟨k.val, ⟨Nat.zero_le _, k.isLt, fun k' _ h' => ?_⟩, by rw [hk]; rfl⟩
  have b := hb _ ((hp _).2 ⟨⟨k', h'⟩, rfl⟩)
  rw [hk] at b
  rcases b with b | ⟨b, b'⟩
  · exact ⟨b.le, fun x => absurd x b.ne'⟩
  · refine ⟨b.le, fun _ => ?_⟩
    rw [toInt_code k.isLt.le, toInt_code h'.le] at b'
    exact_mod_cast b'

end Cert.Proof.Argmin

end
-- ==== Proof.Ref.lean ====
/-
  The reference's stages on its two arguments' values, and what each is: the distances, the code of each row, the
  codeword taken at the code, that with the row subtracted and added again, and the loss.
-/
module

public import proofs.«01_k».proof.Proof.Argmin
public import proofs.«01_k».proof.Proof.Spec
public import Idealize.ShloMosaic.Lib.Routing.Ops

@[expose] public section

set_option maxRecDepth 16384

noncomputable section

namespace Cert.Proof.Ref

open Cert.ReferenceIdeal Cert.ReferenceIdeal.Facts₀ Cert.Proof.First Cert.Proof.Column Cert.Proof.Spec Cert.Proof.Argmin
open Idealize.ShloMosaic Idealize.ShloMosaic.Pointwise

/-! ## The stages -/

/-- Each row less each codeword. -/
def apart (X : FVec Ideal S2048x64 .f32) (C : FVec Ideal S1024x64 .f32) : FVec Ideal S2048x1024x64 .f32 :=
  subf
    (broadcastInDim S2048x1024x64 ![0, 1, 2] bcast_S2048x1x64_S2048x1024x64_0_1_2
      (broadcastInDim S2048x1x64 ![0, 2] bcast_S2048x64_S2048x1x64_0_2 X))
    (broadcastInDim S2048x1024x64 ![0, 1, 2] bcast_S1x1024x64_S2048x1024x64_0_1_2
      (broadcastInDim S1x1024x64 ![1, 2] bcast_S1024x64_S1x1024x64_1_2 C))

/-- The squared distance of each row from each codeword. -/
def dists (X : FVec Ideal S2048x64 .f32) (C : FVec Ideal S1024x64 .f32) : FVec Ideal S2048x1024 .f32 :=
  Host.reduceAdd (mulf (apart X C) (apart X C)) (constant S_ .f32 0x00000000#32) reducesTo_S2048x1024x64_S2048x1024_d2 h_S_

/-- A code counted from the end when it is negative. -/
def wrapped (i : IVec S2048 32) : IVec S2048 32 :=
  select (cmpi .slt i (broadcastInDim S2048 ![] bcast_S_S2048 (constantI S_ 32 0#32)))
    (addi i (broadcastInDim S2048 ![] bcast_S_S2048 (constantI S_ 32 1024#32))) i

/-- The codes as a column. -/
def column (i : IVec S2048 32) : IVec S2048x1 32 := broadcastInDim S2048x1 ![0] bcast_S2048_S2048x1_0 (wrapped i)

/-- Whether each code names a codeword. -/
def named (i : IVec S2048 32) : IVec S2048 1 :=
  Host.reduce IntOp.andi
    (andi (cmpi .sge (column i) (broadcastInDim S2048x1 ![] bcast_S_S2048x1 (constantI S_ 32 0#32)))
      (cmpi .sle (column i) (broadcastInDim S2048x1 ![0, 1] bcast_S1x1_S2048x1_0_1
        (broadcastInDim S1x1 ![1] bcast_S1_S1x1_1 (constantI S1 32 1023#32)))))
    (constantI S_ 1 1#1) reducesTo_S2048x1_S2048_d1 h_S_

/-- The codewords at the codes. -/
def took (C : FVec Ideal S1024x64 .f32) (i : IVec S2048 32) : FVec Ideal S2048x64 .f32 :=
  select (broadcastInDim S2048x64 ![0] bcast_S2048_S2048x64_0 (named i))
    (Host.gather gather_S1024x64_S2048x1_S2048x64_1_0_n_n_0_1_164 C (column i))
    (broadcastInDim S2048x64 ![] bcast_S_S2048x64 (constant S_ .f32 0x7FC00000#32))

/-- The rows of the first argument. -/
def flatten (A : FVec Ideal S2x1024x64 .f32) : FVec Ideal S2048x64 .f32 :=
  shapeCast S2048x64 A shapeCasts_S2x1024x64_S2048x64

/-- The first result. -/
def quantized (A : FVec Ideal S2x1024x64 .f32) (C : FVec Ideal S1024x64 .f32) : FVec Ideal S2x1024x64 .f32 :=
  addf A (subf (shapeCast S2x1024x64 (took C (codes (dists (flatten A) C))) shapeCasts_S2048x64_S2x1024x64) A)

/-- The second. -/
def coded (A : FVec Ideal S2x1024x64 .f32) (C : FVec Ideal S1024x64 .f32) : IVec S2x1024 32 :=
  shapeCast S2x1024 (codes (dists (flatten A) C)) shapeCasts_S2048_S2x1024

/-- The mean squared difference of two arrays. -/
def mean (Q A : FVec Ideal S2x1024x64 .f32) : FVec Ideal S_ .f32 :=
  Host.divf (Host.reduceAdd (mulf (subf Q A) (subf Q A)) (constant S_ .f32 0x00000000#32) reducesTo_S2x1024x64_S_d0_1_2 h_S_)
    (constant S_ .f32 0x48000000#32)

/-- The third result. -/
def lost (Q A : FVec Ideal S2x1024x64 .f32) : FVec Ideal S_ .f32 :=
  addf (mean Q A) (mulf (constant S_ .f32 0x3E800000#32) (mean Q A))

/-! ## What they are -/

theorem dists_sum (X : FVec Ideal S2048x64 .f32) (C : FVec Ideal S1024x64 .f32) (r : Fin 2048) (k : Fin 1024) :
    dists X C (ix2 r k) = ∑ d : Fin 64, (X (ix2 r d) - C (ix2 k d)) * (X (ix2 r d) - C (ix2 k d)) := by
  pointwise [dists, apart]

variable {X : S2048x64.Idx → EReal} {C : S1024x64.Idx → EReal}

/-- The distances are the real ones. -/
theorem dists_apply (hfin : Finite X C) (r : Fin 2048) (k : Fin 1024) :
    dists X C (ix2 r k) = ((dist X C r k.val : ℝ) : EReal) := by
  rw [dists_sum, Spec.dist, ← coe_sum]
  refine Finset.sum_congr rfl fun d _ => ?_
  have hk : Fin.ofNat 1024 k.val = k := Fin.ext (Nat.mod_eq_of_lt k.isLt)
  rw [EReal.coe_mul, EReal.coe_sub, row, word, hfin.rows, hfin.words, hk]

/-- The codes are the nearest codewords'. -/
theorem codes_near (hfin : Finite X C) (r : Fin 2048) :
    near X C r < 1024 ∧ codes (dists X C) (ix1 r) = BitVec.ofNat 32 (near X C r) := by
  obtain ⟨k, hk, e⟩ := codes_apply (dists X C) r (dist X C r) (dists_apply hfin r)
  rw [near_eq X C (show Near X C r k from hk)]
  exact ⟨hk.2.1, e⟩

/-- A number below 1024 is not negative as a code. -/
theorem not_negative (n : ℕ) (hn : n < 1024) : IntOp.cmpi .slt (BitVec.ofNat 32 n) 0#32 = 0#1 := by
  have h : ¬(BitVec.ofNat 32 n).toInt < (0#32).toInt := by rw [toInt_code hn.le, toInt_code (Nat.zero_le _)]; omega
  rw [IntOp.cmpi, BitVec.slt, decide_eq_false h]
  rfl

/-- It is among the codes from 0 to 1023. -/
theorem within (n : ℕ) (hn : n < 1024) :
    IntOp.andi (IntOp.cmpi .sge (BitVec.ofNat 32 n) 0#32) (IntOp.cmpi .sle (BitVec.ofNat 32 n) 1023#32) = 1#1 := by
  have h : (0#32).toInt ≤ (BitVec.ofNat 32 n).toInt := by rw [toInt_code hn.le, toInt_code (Nat.zero_le _)]; omega
  have k : (BitVec.ofNat 32 n).toInt ≤ (1023#32).toInt := by rw [toInt_code hn.le, toInt_code (by omega)]; omega
  rw [IntOp.cmpi, IntOp.cmpi, BitVec.sle, BitVec.sle, decide_eq_true h, decide_eq_true k]
  rfl

/-- A code that is a number below 1024 stays. -/
theorem wrapped_apply (i : IVec S2048 32) (r : Fin 2048) (n : ℕ) (hn : n < 1024) (h : i (ix1 r) = BitVec.ofNat 32 n) :
    wrapped i (ix1 r) = BitVec.ofNat 32 n := by
  pointwise [wrapped]
  rw [h, not_negative n hn]
  rfl

theorem column_apply (i : IVec S2048 32) (r : Fin 2048) (z : Fin 1) (n : ℕ) (hn : n < 1024)
    (h : i (ix1 r) = BitVec.ofNat 32 n) : column i (ix2 r z) = BitVec.ofNat 32 n := by
  rw [← wrapped_apply i r n hn h]
  pointwise [column]

/-- And names a codeword. -/
theorem named_apply (i : IVec S2048 32) (r : Fin 2048) (n : ℕ) (hn : n < 1024) (h : i (ix1 r) = BitVec.ofNat 32 n) :
    named i (ix1 r) = 1#1 := by
  pointwise [named]
  simp only [column_apply i r _ n hn h, within n hn, Finset.univ_unique, Finset.fold_singleton]
  rfl

/-- The codeword taken is the code's. -/
theorem took_apply (i : IVec S2048 32) (r : Fin 2048) (d : Fin 64) (n : ℕ) (hn : n < 1024)
    (h : i (ix1 r) = BitVec.ofNat 32 n) : took C i (ix2 r d) = C (ix2 (Fin.ofNat 1024 n) d) := by
  have hg := Routing.gather_row (nb := 1024) (B := 64) (n := 2048) gather_S1024x64_S2048x1_S2048x64_1_0_n_n_0_1_164 rfl
    rfl rfl rfl rfl C (column i) r d (Fin.ofNat 1024 n) ((column_apply i r 0 n hn h).trans (congrArg _ (Nat.mod_eq_of_lt hn).symm)) (by decide)
  pointwise [took]
  rw [named_apply i r n hn h]
  exact hg

/-- The rows are the first argument's. -/
theorem flatten_apply (A : FVec Ideal S2x1024x64 .f32) (a : Fin 2) (b : Fin 1024) (d : Fin 64) :
    flatten A (ix2 (flat a b) d) = A (ix3 a b d) := by
  pointwise [flatten]
  exact congrArg A (congrArg₂ (fun x y => ix3 x y d) (Fin.ext (show (a.val * 1024 + b.val) / 1024 = a.val by omega))
    (Fin.ext (show (a.val * 1024 + b.val) % 1024 = b.val by omega)))

/-- The first result at a place. -/
theorem quantized_apply (A : FVec Ideal S2x1024x64 .f32) (hfin : Finite (flatten A) C) (a : Fin 2) (b : Fin 1024) (d : Fin 64) :
    quantized A C (ix3 a b d) = quant (flatten A) C (flat a b) d := by
  have h := codes_near hfin (flat a b)
  rw [Spec.quant, flatten_apply, ← took_apply (C := C) _ _ d _ h.1 h.2]
  pointwise [quantized]
  rfl

/-- The first result. -/
theorem quantized_eq (A : FVec Ideal S2x1024x64 .f32) (hfin : Finite (flatten A) C) :
    quantized A C = fun i => quant (flatten A) C (flat (i 0) (i 1)) (i 2) := by
  funext i
  rw [eq_ix3 i]
  exact quantized_apply A hfin (i 0) (i 1) (i 2)

/-- The second. -/
theorem coded_eq (A : FVec Ideal S2x1024x64 .f32) (hfin : Finite (flatten A) C) :
    coded A C = fun i => BitVec.ofNat 32 (near (flatten A) C (flat (i 0) (i 1))) := by
  funext i
  rw [eq_ix2 i]
  show _ = BitVec.ofNat 32 (near (flatten A) C (flat (i 0) (i 1)))
  rw [← (codes_near hfin (flat (i 0) (i 1))).2]
  pointwise [coded]
  rfl

theorem mean_eq (Q A : FVec Ideal S2x1024x64 .f32) (i : S_.Idx) : mean Q A i =
    Ideal.div (∑ a : Fin 2, ∑ b : Fin 1024, ∑ d : Fin 64, (Q (ix3 a b d) - A (ix3 a b d)) * (Q (ix3 a b d) - A (ix3 a b d)))
      (Ideal.ofBits .f32 0x48000000#32) := by
  pointwise [mean]

/-- The rows taken batch by batch. -/
theorem sum_flat (f : Fin 2048 → EReal) : ∑ a : Fin 2, ∑ b : Fin 1024, f (flat a b) = ∑ r, f r := by
  rw [← Fintype.sum_prod_type']
  exact Fintype.sum_equiv (finProdFinEquiv (m := 2) (n := 1024)) _ _ fun x =>
    congrArg f (Fin.ext (show x.1.val * 1024 + x.2.val = x.2.val + 1024 * x.1.val by omega))

/-- The third. -/
theorem lost_eq (A : FVec Ideal S2x1024x64 .f32) (hfin : Finite (flatten A) C) :
    lost (quantized A C) A = fun _ => loss (flatten A) C := by
  have e (i : S_.Idx) : mean (quantized A C) A i = Ideal.div (total (flatten A) C) (Ideal.ofBits .f32 0x48000000#32) := by
    rw [mean_eq, total, ← sum_flat]
    simp only [flatten_apply, quantized_apply A hfin]
  funext i
  rw [loss, ← e i]
  rfl

end Cert.Proof.Ref

end
-- ==== Proof.Pre.lean ====
/-
  The precondition: every number of both arguments is below infinity in size, which in the extended reals is to be a real
  number.
-/
module

public import proofs.«01_k».proof.Pre_finite
public import proofs.«01_k».proof.Proof.Gen.Pre_finite
public import proofs.«01_k».proof.Proof.Column
public import Idealize.ShloMosaic.Lib.Pointwise

@[expose] public section

set_option maxRecDepth 16384

noncomputable section

namespace Cert.Proof.Pre

open Cert.Pre_finite Cert.Pre_finite.Facts Cert.Proof.Column
open Idealize.ShloMosaic Idealize.ShloMosaic.Pointwise

/-- A number smaller in size than infinity is a real one. -/
theorem real (x : EReal) (h : max x (-x) < ⊤) : ((x.toReal : ℝ) : EReal) = x := by
  refine EReal.coe_toReal (fun e => ?_) (fun e => ?_)
  · rw [e] at h; exact absurd h (by simp)
  · rw [e] at h; exact absurd h (by simp)

theorem andi_one (a b : BitVec 1) : IntOp.andi a b = 1#1 ↔ a = 1#1 ∧ b = 1#1 := by
  revert a b; decide

/-- A conjunction over a finite set is true only if every member of it is. -/
theorem fold_andi {ι : Type} [DecidableEq ι] (f : ι → BitVec 1) (t : Finset ι) (h : t.fold IntOp.andi 1#1 f = 1#1) :
    ∀ i ∈ t, f i = 1#1 := by
  induction t using Finset.induction_on with
  | empty => exact fun i hi => absurd hi (Finset.notMem_empty i)
  | insert a t ha ih =>
    rw [Finset.fold_insert ha] at h
    have h := (andi_one _ _).1 h
    intro i hi
    rcases Finset.mem_insert.1 hi with rfl | hi
    · exact h.1
    · exact ih h.2 i hi

/-- One element's test. -/
theorem test (x : EReal) (h : BitVec.ofBool (decide (max x (-x) < Ideal.ofBits .f32 0x7F800000#32)) = 1#1) :
    ((x.toReal : ℝ) : EReal) = x := by
  rw [ofBits_inf] at h
  refine real x (of_decide_eq_true ?_)
  cases e : decide (max x (-x) < ⊤)
  · rw [e] at h; exact absurd h (by decide)
  · rfl

theorem fn_apply (A : FVec Ideal S2x1024x64 .f32) (C : FVec Ideal S1024x64 .f32) (i : S_.Idx) : fn A C i =
    IntOp.andi
      ((Finset.univ : Finset (Fin 2 × Fin 1024 × Fin 64)).fold IntOp.andi 1#1 fun k =>
        BitVec.ofBool (decide (max (A (ix3 k.1 k.2.1 k.2.2)) (-A (ix3 k.1 k.2.1 k.2.2)) < Ideal.ofBits .f32 0x7F800000#32)))
      ((Finset.univ : Finset (Fin 1024 × Fin 64)).fold IntOp.andi 1#1 fun k =>
        BitVec.ofBool (decide (max (C (ix2 k.1 k.2)) (-C (ix2 k.1 k.2)) < Ideal.ofBits .f32 0x7F800000#32))) := by
  pointwise [fn]
  rfl

/-- What the precondition says of the two arguments. -/
theorem reals (A : FVec Ideal S2x1024x64 .f32) (C : FVec Ideal S1024x64 .f32) (h : fn A C = fun _ => 1#1) :
    (∀ i, (((A i : EReal).toReal : ℝ) : EReal) = A i) ∧ ∀ i, (((C i : EReal).toReal : ℝ) : EReal) = C i := by
  have e := (andi_one _ _).1 ((fn_apply A C fun a => a.elim0).symm.trans (congrFun h _))
  refine ⟨fun i => ?_, fun i => ?_⟩
  · rw [eq_ix3 i]
    exact test _ (fold_andi _ _ e.1 (i 0, i 1, i 2) (Finset.mem_univ _))
  · rw [eq_ix2 i]
    exact test _ (fold_andi _ _ e.2 (i 0, i 1) (Finset.mem_univ _))

end Cert.Proof.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Kernel
public import proofs.«01_k».proof.Proof.Ref
public import proofs.«01_k».proof.Proof.Pre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's frame: its host operations write neither argument, and it declares no semaphore. -/
theorem frame_reference : Cert.quiescent_ReferenceIdeal := by
  intro m g _
  hlo_run
  · exact fun _ => ⟨trivial, trivial⟩
  · exact sem_eq_zero_of_no_sems (sig := Cert.ReferenceIdeal.sig) (by decide) _

/-- The precondition read: every row and codeword is of real numbers. -/
theorem finite (m) (h : Cert.Pre_KernelIdeal_finite m) (c : Dev Cert.KernelIdeal.nD) :
    Spec.Finite (Kernel.rows m c) (Kernel.words m c) :=
  ⟨fun _ => (Pre.reals _ _ (h c)).1 _, (Pre.reals _ _ (h c)).2⟩

/-- The kernel's three results are the reference's. -/
theorem algebraic : Cert.algebraic_KernelIdeal_ReferenceIdeal_pre_finite := by
  pair_intro
  · run_from Cert.KernelIdeal.Gen.run_main m g
    exact Cert.KernelIdeal.Gen.W_main_arg0 m (Cert.KernelIdeal.Gen.dats m) c
  · have hfin := finite m hpre
    hlo_run
    all_goals simp -implicitDefEqProofs only [StableHlo.TRef.toBuf, StableHlo.TRef.ofBuf, cast_cast, cast_eq]
    · exact (Ref.quantized_eq _ (hfin _)).trans (Kernel.result_quant m _ (hfin _)).symm
    · exact (Ref.coded_eq _ (hfin _)).trans (Kernel.result_codes m _ (hfin _)).symm
    · exact (Ref.lost_eq _ (hfin _)).trans (Kernel.result_loss m _ (hfin _)).symm

theorem claim : Cert.Claim := ⟨Cert.Kernel.Gen.facts, Cert.KernelIdeal.Gen.facts, Cert.ReferenceIdeal.Gen.facts,
  Cert.Pre_finite.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  algebraic⟩

end Cert.Proof

end
